-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S2x1x2048 : Shape := ⟨3, ![2, 1, 2048]⟩
abbrev S2048x128 : Shape := ⟨2, ![2048, 128]⟩
abbrev S1x1x2048 : Shape := ⟨3, ![1, 1, 2048]⟩
abbrev S2048 : Shape := ⟨1, ![2048]⟩
abbrev S2048x1 : Shape := ⟨2, ![2048, 1]⟩
abbrev S512x128 : Shape := ⟨2, ![512, 128]⟩
abbrev S2048x512 : Shape := ⟨2, ![2048, 512]⟩
abbrev S512 : Shape := ⟨1, ![512]⟩
abbrev S1x512 : Shape := ⟨2, ![1, 512]⟩
abbrev S4096 : Shape := ⟨1, ![4096]⟩

abbrev nBuf : Space → Nat
  | .hbm => 4
  | .vmem => 5
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S2x1x2048, .i32⟩
  | .hbm, ⟨3, _⟩ => ⟨S4096, .i32⟩
  | .local _ .vmem, ⟨0, _⟩ => ⟨S2048x128, .f32⟩
  | .local _ .vmem, ⟨1, _⟩ => ⟨S2048x128, .f32⟩
  | .local _ .vmem, ⟨2, _⟩ => ⟨S4096x128, .f32⟩
  | .local _ .vmem, ⟨3, _⟩ => ⟨S1x1x2048, .i32⟩
  | .local _ .vmem, ⟨4, _⟩ => ⟨S1x1x2048, .i32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4096x128 : Shape := ⟨2, ![4096, 128]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S128x4096 : Shape := ⟨2, ![128, 4096]⟩
abbrev S1 : Shape := ⟨1, ![1]⟩
abbrev S1x1 : Shape := ⟨2, ![1, 1]⟩

abbrev nBuf : Space → Nat
  | .hbm => 73
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S_, .i32⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S_, .i32⟩
  | .hbm, ⟨12, _⟩ => ⟨S4096, .i32⟩
  | .hbm, ⟨13, _⟩ => ⟨S4096, .i1⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S_, .i32⟩
  | .hbm, ⟨18, _⟩ => ⟨S_, .i1⟩
  | .hbm, ⟨19, _⟩ => ⟨S4096, .i1⟩
  | .hbm, ⟨20, _⟩ => ⟨S4096, .i1⟩
  | .hbm, ⟨21, _⟩ => ⟨S4096, .i1⟩
  | .hbm, ⟨22, _⟩ => ⟨S4096, .i32⟩
  | .hbm, ⟨23, _⟩ => ⟨S4096, .i32⟩
  | .hbm, ⟨24, _⟩ => ⟨S4096, .i32⟩
  | .hbm, ⟨25, _⟩ => ⟨S4096x128, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S4096x128, .f32⟩
  | .hbm, ⟨30, _⟩ => ⟨S_, .f32⟩
  | .hbm, ⟨31, _⟩ => ⟨S4096, .f32⟩
  | .hbm, ⟨32, _⟩ => ⟨S1x4096, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S128x4096, .f32⟩
  | .hbm, ⟨37, _⟩ => ⟨S4096x4096, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S4096x4096, .i32⟩
  | .hbm, ⟨47, _⟩ => ⟨S_, .f32⟩
  | .hbm, ⟨48, _⟩ => ⟨S_, .i32⟩
  | .hbm, ⟨49, _⟩ => ⟨S4096, .f32⟩
  | .hbm, ⟨50, _⟩ => ⟨S4096, .i32⟩
  | .hbm, ⟨51, _⟩ => ⟨S_, .i32⟩
  | .hbm, ⟨52, _⟩ => ⟨S4096, .i32⟩
  | .hbm, ⟨53, _⟩ => ⟨S4096, .i1⟩
  | .hbm, ⟨54, _⟩ => ⟨S_, .i32⟩
  | .hbm, ⟨55, _⟩ => ⟨S4096, .i32⟩
  | .hbm, ⟨56, _⟩ => ⟨S4096, .i32⟩
  | .hbm, ⟨57, _⟩ => ⟨S4096, .i32⟩
  | .hbm, ⟨58, _⟩ => ⟨S4096x1, .i32⟩
  | .hbm, ⟨59, _⟩ => ⟨S1, .i32⟩
  | .hbm, ⟨60, _⟩ => ⟨S_, .i32⟩
  | .hbm, ⟨61, _⟩ => ⟨S4096x1, .i32⟩
  | .hbm, ⟨62, _⟩ => ⟨S4096x1, .i1⟩
  | .hbm, ⟨63, _⟩ => ⟨S1x1, .i32⟩
  | .hbm, ⟨64, _⟩ => ⟨S4096x1, .i32⟩
  | .hbm, ⟨65, _⟩ => ⟨S4096x1, .i1⟩
  | .hbm, ⟨66, _⟩ => ⟨S4096x1, .i1⟩
  | .hbm, ⟨67, _⟩ => ⟨S_, .i1⟩
  | .hbm, ⟨68, _⟩ => ⟨S4096, .i1⟩
  | .hbm, ⟨69, _⟩ => ⟨S4096, .i32⟩
  | .hbm, ⟨70, _⟩ => ⟨S_, .i32⟩
  | .hbm, ⟨71, _⟩ => ⟨S4096, .i32⟩
  | .hbm, ⟨72, _⟩ => ⟨S4096, .i32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c_1 : Ref sig .tc := ⟨.hbm, 11, rfl⟩
abbrev main_call0_v5 : Ref sig .tc := ⟨.hbm, 12, rfl⟩
abbrev main_call0_v6 : Ref sig .tc := ⟨.hbm, 13, rfl⟩
abbrev main_call0_c_2 : Ref sig .tc := ⟨.hbm, 14, rfl⟩
abbrev main_call0_v7 : Ref sig .tc := ⟨.hbm, 15, rfl⟩
abbrev main_call0_v8 : Ref sig .tc := ⟨.hbm, 16, rfl⟩
abbrev main_call0_c_3 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_cst : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_cst_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst_1 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_2 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_call1_v0 : Ref sig .tc := ⟨.hbm, 46, rfl⟩
abbrev main_call1_cst : Ref sig .tc := ⟨.hbm, 47, rfl⟩
abbrev main_call1_c : Ref sig .tc := ⟨.hbm, 48, rfl⟩
abbrev main_call1_v1_0 : Ref sig .tc := ⟨.hbm, 49, rfl⟩
abbrev main_v19 : Ref sig .tc := ⟨.hbm, 50, rfl⟩
abbrev main_call2_c : Ref sig .tc := ⟨.hbm, 51, rfl⟩
abbrev main_call2_v0 : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_c_1 : Ref sig .tc := ⟨.hbm, 59, rfl⟩
abbrev main_call2_c_2 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_3 : Ref sig .tc := ⟨.hbm, 67, rfl⟩
abbrev main_call2_v12 : Ref sig .tc := ⟨.hbm, 68, rfl⟩
abbrev main_call2_v13 : Ref sig .tc := ⟨.hbm, 69, rfl⟩
abbrev main_call2_c_4 : Ref sig .tc := ⟨.hbm, 70, rfl⟩
abbrev main_call2_v14 : Ref sig .tc := ⟨.hbm, 71, rfl⟩
abbrev main_v20 : Ref sig .tc := ⟨.hbm, 72, rfl⟩

abbrev nD : Nat := 1
abbrev τ : Topo := Topo.v7x

variable {F : FTy → Type} [FloatOps F]
-- ==== Proof.Chain.lean ====
/- The kernel's sixteen steps over one half of the codebook, as one recursion: the running least value of a lane and
   the number of the tile it came from. Every value the body stores is one of these, at a stated number of steps. -/
module

public import proofs.«01_k».proof.Defs
public import proofs.«01_k».proof.Proof.Gen.KernelIdeal.Frame

@[expose] public section

set_option maxRecDepth 16384

noncomputable section

namespace Cert.KernelIdeal.Chain

open Idealize.ShloMosaic Idealize.SL.Sem Cert.KernelIdeal Cert.KernelIdeal.Gen

variable {F : FTy → Type} [FloatOps F]

/-- The lanes' least values after the first `n` tiles. -/
def accV (D : ℕ → FVec F S2048x128 .f32) : ℕ → FVec F S2048x128 .f32
  | 0 => k0_pay4
  | n + 1 => select (cmpf .olt (D n) (accV D n)) (D n) (accV D n)

/-- The number of the tile each lane's least value came from, after the first `n` tiles. -/
def accT (D : ℕ → FVec F S2048x128 .f32) : ℕ → IVec S2048x128 32
  | 0 => broadcast S2048x128 0#32
  | n + 1 => select (cmpf .olt (D n) (accV D n)) (broadcast S2048x128 (BitVec.ofNat 32 n)) (accT D n)

/-- The distances of a block of queries to one strip of 512 codes. -/
abbrev strip (x : Vec F S2048x128 .f32) (s : Vec F S512x128 .f32) : FVec F S2048x512 .f32 :=
  k0_pay33 (k0_pay2 x) (k0_pay3 x) s

/-- A tile of 128 columns fits in a strip of 512. -/
theorem slices (u : ℕ) (hu : u < 4) : S2048x512.Slices ![0, 128 * u] S2048x128 := by
  interval_cases u
  exacts [slices_S2048x512_o0_0_S2048x128, slices_S2048x512_o0_128_S2048x128, slices_S2048x512_o0_256_S2048x128,
    slices_S2048x512_o0_384_S2048x128]

/-- Tile `n` of the distances to the strips `s`: a quarter of strip `n / 4`. -/
def tile (x : Vec F S2048x128 .f32) (s : ℕ → Vec F S512x128 .f32) (n : ℕ) : FVec F S2048x128 .f32 :=
  extractStridedSlice S2048x128 ![0, 128 * (n % 4)] (strip x (s (n / 4))) (slices (n % 4) (Nat.mod_lt n (by decide)))

variable (x : Vec F S2048x128 .f32) (s : ℕ → Vec F S512x128 .f32)

/-- The low half's values after the first strip. -/
theorem lo_v4 : k0_pay17 x (s 0) = accV (tile x s) 4 := rfl

/-- The low half's tile numbers after the first strip. -/
theorem lo_t4 : k0_pay18 x (s 0) = accT (tile x s) 4 := rfl

/-- The low half's values after nine tiles. -/
theorem lo_v9 : k0_pay36 (k0_pay2 x) (k0_pay3 x) (accV (tile x s) 4) (s 1) (k0_pay19 x (s 1)) (s 2) = accV (tile x s) 9 := rfl

/-- The low half's tile numbers after nine tiles. -/
theorem lo_t9 : k0_pay37 (k0_pay2 x) (k0_pay3 x) (accV (tile x s) 4) (accT (tile x s) 4) (s 1) (k0_pay19 x (s 1)) (s 2)
    = accT (tile x s) 9 := rfl

/-- The low half's tenth tile. -/
theorem lo_d9 : k0_pay38 (k0_pay2 x) (k0_pay3 x) (s 2) = tile x s 9 := rfl

/-- The low half's values after all sixteen tiles. -/
theorem lo_v16 : k0_pay59 (k0_pay2 x) (k0_pay3 x) (k0_pay33 (k0_pay2 x) (k0_pay3 x) (s 2)) (accV (tile x s) 9) (tile x s 9) (s 3)
    = accV (tile x s) 16 := rfl

/-- The low half's tile numbers after all sixteen tiles. -/
theorem lo_t16 : k0_pay60 (k0_pay2 x) (k0_pay3 x) (k0_pay33 (k0_pay2 x) (k0_pay3 x) (s 2)) (accV (tile x s) 9) (accT (tile x s) 9)
    (tile x s 9) (s 3) = accT (tile x s) 16 := rfl

/-- The high half's values after the first strip. -/
theorem hi_v4 : k0_pay78 (k0_pay2 x) (k0_pay3 x) (s 0) = accV (tile x s) 4 := rfl

/-- The high half's tile numbers after two strips. -/
theorem hi_t8 : k0_pay92 (k0_pay2 x) (k0_pay3 x) (k0_pay75 (k0_pay2 x) (k0_pay3 x) (s 0)) (k0_pay77 (k0_pay2 x) (k0_pay3 x) (s 0))
    (accV (tile x s) 4) 3#32 (s 1) = accT (tile x s) 8 := rfl

/-- The high half's values after two strips. -/
theorem hi_v8 : k0_pay91 (k0_pay2 x) (k0_pay3 x) (accV (tile x s) 4) (s 1) = accV (tile x s) 8 := rfl

/-- The high half's values after fifteen tiles. -/
theorem hi_v15 : k0_pay115 (k0_pay2 x) (k0_pay3 x) (accV (tile x s) 8) (k0_pay93 (k0_pay2 x) (k0_pay3 x) (s 2)) (s 3)
    = accV (tile x s) 15 := rfl

/-- The high half's tile numbers after fifteen tiles. -/
theorem hi_t15 : k0_pay116 (k0_pay2 x) (k0_pay3 x) (accV (tile x s) 8) (accT (tile x s) 8) (k0_pay93 (k0_pay2 x) (k0_pay3 x) (s 2)) (s 3)
    = accT (tile x s) 15 := rfl

/-- The high half's last tile. -/
theorem hi_d15 : k0_pay117 (k0_pay2 x) (k0_pay3 x) (s 3) = tile x s 15 := rfl

end Cert.KernelIdeal.Chain

end
-- ==== Proof.Spec.lean ====
/- The mathematics both programs compute, with no program in sight: the distance of two rows, the least
   index at which a sequence is smallest, and the ways that index is found (in one sweep, tile by tile in
   every lane, and from two halves). -/
module

public import Idealize.ShloMosaic.Lib.Pointwise
public import Idealize.ShloMosaic.Lib.SortNet.Extract
public import Idealize.ShloMosaic.PureOps.Ideal.Laws

@[expose] public section

set_option maxRecDepth 16384

noncomputable section

namespace Cert.Spec

open Idealize.ShloMosaic

/-! ## The distance -/

/-- The distance of the rows `x` and `c`, from their squared lengths and their inner product. -/
def rowDist (x c : Fin 128 → EReal) : EReal :=
  Ideal.sqrt (max (((∑ i, x i * x i) + ∑ i, c i * c i) - 2 * ∑ i, x i * c i) 0)

/-- On the extended reals twice a number is its sum with itself. -/
theorem twice (a : EReal) : 2 * a = a + a := by
  rw [← one_add_one_eq_two, EReal.right_distrib_of_nonneg (by norm_num) (by norm_num), one_mul]

/-- On the extended reals a doubled number times `b` is twice the product. -/
theorem double_mul (a b : EReal) : (a + a) * b = 2 * (a * b) := by
  rw [← mul_assoc, twice]

/-- On the extended reals twice a sum is the sum of the doubled terms. -/
theorem two_mul_sum {ι : Type} [Fintype ι] (u : ι → EReal) : ∑ i, 2 * u i = 2 * ∑ i, u i := by
  classical
  have h : ∀ s : Finset ι, ∑ i ∈ s, 2 * u i = 2 * ∑ i ∈ s, u i := by
    intro s
    refine Finset.induction_on s (by simp) ?_
    intro a s ha ih
    rw [Finset.sum_insert ha, Finset.sum_insert ha, ih, twice, twice, twice, add_add_add_comm]
  exact h _

/-- The inner product with the doubled row is twice the inner product. -/
theorem sum_double (x c : Fin 128 → EReal) : ∑ i, (x i + x i) * c i = 2 * ∑ i, x i * c i := by
  rw [← two_mul_sum]
  exact Finset.sum_congr rfl fun i _ => double_mul _ _

/-- The pattern of `2.0` is two. -/
theorem ofBits_two : Ideal.ofBits .f32 0x40000000#32 = 2 := by
  have h : (8388608 : ℝ) * (2 ^ 22)⁻¹ = 2 := by norm_num
  simp [Ideal.ofBits, Ideal.ieee]
  rw [← EReal.coe_mul, h]; rfl

/-- The pattern of positive infinity is the greatest extended real. -/
theorem ofBits_top : Ideal.ofBits .f32 0x7F800000#32 = ⊤ := by
  simp [Ideal.ofBits, Ideal.ieee]

/-! ## The least index of the smallest value -/

/-- Among the positions `a ≤ j < n`, `k` is the first at which `f` is smallest. -/
def FirstMin (f : ℕ → EReal) (a n k : ℕ) : Prop :=
  (a ≤ k ∧ k < n) ∧ (∀ j, a ≤ j → j < n → f k ≤ f j) ∧ ∀ j, a ≤ j → j < k → f k < f j

/-- There is only one such position. -/
theorem FirstMin.unique {f : ℕ → EReal} {a n k l : ℕ} (hk : FirstMin f a n k) (hl : FirstMin f a n l) : k = l := by
  rcases lt_trichotomy k l with h | h | h
  · exact absurd (hl.2.2 k hk.1.1 h) (not_lt.mpr (hk.2.1 l hl.1.1 hl.1.2))
  · exact h
  · exact absurd (hk.2.2 l hl.1.1 h) (not_lt.mpr (hl.2.1 k hk.1.1 hk.1.2))

/-- The first minimum over two neighbouring ranges: the second range's where its value is strictly smaller. -/
theorem FirstMin.halves {f : ℕ → EReal} {a b n i j : ℕ} (hi : FirstMin f a b i) (hj : FirstMin f b n j) :
    FirstMin f a n (if f j < f i then j else i) := by
  obtain ⟨⟨i1, i2⟩, i3, i4⟩ := hi
  obtain ⟨⟨j1, j2⟩, j3, j4⟩ := hj
  by_cases h : f j < f i
  · rw [if_pos h]
    refine ⟨⟨by omega, j2⟩, fun k hk1 hk2 => ?_, fun k hk1 hk2 => ?_⟩
    · by_cases hb : b ≤ k
      · exact j3 k hb hk2
      · exact h.le.trans (i3 k hk1 (by omega))
    · by_cases hb : b ≤ k
      · exact j4 k hb hk2
      · exact h.trans_le (i3 k hk1 (by omega))
  · rw [if_neg h]
    refine ⟨⟨i1, by omega⟩, fun k hk1 hk2 => ?_, fun k hk1 hk2 => i4 k hk1 hk2⟩
    by_cases hb : b ≤ k
    · exact (not_lt.mp h).trans (j3 k hb hk2)
    · exact i3 k hk1 (by omega)

/-- The first index, of `4096`, at which `f` is smallest. -/
def nearest (f : ℕ → EReal) : ℕ := sInf {k | FirstMin f 0 4096 k}

/-- An index found to be the first of the smallest value is that one. -/
theorem FirstMin.nearest_eq {f : ℕ → EReal} {k : ℕ} (h : FirstMin f 0 4096 k) : nearest f = k :=
  FirstMin.unique (Nat.sInf_mem (s := {k | FirstMin f 0 4096 k}) ⟨k, h⟩) h

/-- Row `j` of a matrix of `4096` rows. -/
def row (A : FVec Ideal ⟨2, ![4096, 128]⟩ .f32) (j : ℕ) (i : Fin 128) : EReal := A (ix2 (Fin.ofNat 4096 j) i)

/-- The label of query `q`: the parity of the number of its nearest code, the first of equally near ones. -/
def label (X C : FVec Ideal ⟨2, ![4096, 128]⟩ .f32) (q : ℕ) : BitVec 32 :=
  BitVec.ofNat 32 (nearest fun j => rowDist (row X q) (row C j)) &&& 1#32

/-- The labels of all queries, in order. -/
def flat (X C : FVec Ideal ⟨2, ![4096, 128]⟩ .f32) : IVec ⟨1, ![4096]⟩ 32 := fun q => label X C (q 0).val

/-! ## One lane, tile by tile -/

/-- A comparison's bit is set exactly when the first value is smaller. -/
theorem select_olt {α : Type} (a b : EReal) (u v : α) : Scalar.select (Ideal.cmp .olt a b) u v = if a < b then u else v := by
  unfold Scalar.select Ideal.cmp
  by_cases h : a < b <;> simp [h]

/-- The same for equality. -/
theorem select_oeq {α : Type} (a b : EReal) (u v : α) : Scalar.select (Ideal.cmp .oeq a b) u v = if a = b then u else v := by
  unfold Scalar.select Ideal.cmp
  by_cases h : a = b <;> simp [h]

/-- After `n` tiles a lane holds the smallest value `v` so far and, as a word, the first tile `t` holding it. -/
def Lane (g : ℕ → EReal) (n : ℕ) (v : EReal) (t : BitVec 32) : Prop :=
  ∃ k, FirstMin g 0 n k ∧ v = g k ∧ t = BitVec.ofNat 32 k

/-- The first tile, met from positive infinity and tile number zero. -/
theorem Lane.first (g : ℕ → EReal) :
    Lane g 1 (if g 0 < ⊤ then g 0 else ⊤) (if g 0 < ⊤ then BitVec.ofNat 32 0 else 0#32) := by
  refine ⟨0, ⟨⟨le_refl _, by omega⟩, fun j _ hj => ?_, fun j _ hj => by omega⟩, ?_, ?_⟩
  · rw [show j = 0 by omega]
  · by_cases h : g 0 < ⊤
    · rw [if_pos h]
    · rw [if_neg h]; exact (not_lt_top_iff.mp h).symm
  · simp

/-- One more tile: the lane takes its value and number where it is strictly smaller. -/
theorem Lane.step {g : ℕ → EReal} {n : ℕ} {v : EReal} {t : BitVec 32} (h : Lane g n v t) :
    Lane g (n + 1) (if g n < v then g n else v) (if g n < v then BitVec.ofNat 32 n else t) := by
  obtain ⟨k, ⟨⟨k1, k2⟩, k3, k4⟩, rfl, rfl⟩ := h
  by_cases h : g n < g k
  · rw [if_pos h, if_pos h]
    refine ⟨n, ⟨⟨by omega, by omega⟩, fun j _ hj => ?_, fun j _ hj => h.trans_le (k3 j (by omega) hj)⟩, rfl, rfl⟩
    by_cases hb : j < n
    · exact h.le.trans (k3 j (by omega) hb)
    · rw [show j = n by omega]
  · rw [if_neg h, if_neg h]
    refine ⟨k, ⟨⟨by omega, by omega⟩, fun j _ hj => ?_, k4⟩, rfl, rfl⟩
    by_cases hb : j < n
    · exact k3 j (by omega) hb
    · rw [show j = n by omega]; exact not_lt.mp h

/-! ## The lanes together -/

/-- A number below `2 ^ 31`, as a word, reads back as itself. -/
theorem toInt_ofNat {n : ℕ} (h : n < 2 ^ 31) : (BitVec.ofNat 32 n).toInt = n := by
  rw [BitVec.toInt_ofNat', Int.bmod_def]; norm_num at h ⊢; omega

/-- The signed minimum of finitely many words: no greater than any, and one of them or the start. -/
theorem fold_minsi {ι : Type} [DecidableEq ι] (g : ι → BitVec 32) (z : BitVec 32) (s : Finset ι) :
    (∀ i ∈ s, (s.fold IntOp.minsi z g).toInt ≤ (g i).toInt) ∧
      (s.fold IntOp.minsi z g = z ∨ ∃ i ∈ s, s.fold IntOp.minsi z g = g i) := by
  refine Finset.induction_on s ⟨by simp, Or.inl (by simp)⟩ ?_
  intro a s ha ⟨h1, h2⟩
  rw [Finset.fold_insert ha]
  refine ⟨fun i hi => ?_, ?_⟩
  · rw [SortNet.toInt_minsi]
    rcases Finset.mem_insert.mp hi with rfl | hi
    · exact min_le_left _ _
    · exact (min_le_right _ _).trans (h1 i hi)
  · have hm : ∀ u v : BitVec 32, IntOp.minsi u v = u ∨ IntOp.minsi u v = v := by
      intro u v; unfold IntOp.minsi; split <;> simp
    rcases hm (g a) (s.fold IntOp.minsi z g) with h | h
    · exact Or.inr ⟨a, Finset.mem_insert_self _ _, h⟩
    · rw [h]
      rcases h2 with h2 | ⟨i, hi, h2⟩
      · exact Or.inl h2
      · exact Or.inr ⟨i, Finset.mem_insert_of_mem hi, h2⟩

/-- The minimum of the lanes' values: no greater than any, and one of them. -/
theorem fold_min (v : Fin 128 → EReal) :
    (∀ l, (Finset.univ : Finset (Fin 128)).fold min ⊤ v ≤ v l) ∧ ∃ l, v l = (Finset.univ : Finset (Fin 128)).fold min ⊤ v := by
  have h : (Finset.univ : Finset (Fin 128)).fold min ⊤ v = Finset.univ.inf v := rfl
  rw [h]
  refine ⟨fun l => Finset.inf_le (Finset.mem_univ l), ?_⟩
  obtain ⟨l, _, hl⟩ := Finset.exists_mem_eq_inf Finset.univ ⟨0, Finset.mem_univ _⟩ v
  exact ⟨l, hl.symm⟩

/-- The index word a lane proposes: its position where it attains the minimum `m`, else `4096`. -/
def proposal (base : ℕ) (v : EReal) (t : BitVec 32) (m : EReal) (l : Fin 128) : BitVec 32 :=
  if v = m then BitVec.ofNat 32 base + t * 128#32 + BitVec.ofNat 32 l.val else 4096#32

/-- The smallest proposal of all lanes is the first position, among the `2048` from `base` on, at which `f` is smallest. -/
theorem lanes {f : ℕ → EReal} {base : ℕ} (hb : base ≤ 2048) {v : Fin 128 → EReal} {t : Fin 128 → BitVec 32}
    (h : ∀ l : Fin 128, Lane (fun n => f (base + 128 * n + l.val)) 16 (v l) (t l)) :
    ∃ k, FirstMin f base (base + 2048) k ∧ f k = (Finset.univ : Finset (Fin 128)).fold min ⊤ v ∧
      (Finset.univ : Finset (Fin 128)).fold IntOp.minsi 2147483647#32
        (fun l => proposal base (v l) (t l) ((Finset.univ : Finset (Fin 128)).fold min ⊤ v) l) = BitVec.ofNat 32 k := by
  obtain ⟨m1, l1, m2⟩ := fold_min v
  generalize (Finset.univ : Finset (Fin 128)).fold min ⊤ v = m at m1 m2 ⊢
  choose K hK hv ht using h
  have hw : ∀ l, v l = m → proposal base (v l) (t l) m l = BitVec.ofNat 32 (base + 128 * K l + l.val) := by
    intro l hl
    unfold proposal
    rw [if_pos hl, ht l, mul_comm 128 (K l), BitVec.ofNat_add, BitVec.ofNat_add, BitVec.ofNat_mul]
  have hlt : ∀ l, base + 128 * K l + l.val < 4096 := by
    intro l
    have h1 := (hK l).1.2
    have h2 := l.isLt
    omega
  obtain ⟨w1, w2⟩ := fold_minsi (fun l => proposal base (v l) (t l) m l) 2147483647#32 Finset.univ
  generalize (Finset.univ : Finset (Fin 128)).fold IntOp.minsi 2147483647#32 (fun l => proposal base (v l) (t l) m l) = R at w1 w2 ⊢
  have hR : R.toInt < 4096 := by
    have := w1 l1 (Finset.mem_univ _)
    rw [hw l1 m2, toInt_ofNat (by have := hlt l1; omega)] at this
    have := hlt l1
    omega
  have hl0 : ∃ l, v l = m ∧ R = BitVec.ofNat 32 (base + 128 * K l + l.val) := by
    rcases w2 with rfl | ⟨l, _, rfl⟩
    · exact absurd hR (by decide)
    · by_cases hl : v l = m
      · exact ⟨l, hl, hw l hl⟩
      · refine absurd hR ?_
        show ¬ (proposal base (v l) (t l) m l).toInt < 4096
        unfold proposal
        rw [if_neg hl]; decide
  obtain ⟨l0, e0, rfl⟩ := hl0
  have hfm : f (base + 128 * K l0 + l0.val) = m := by rw [← e0, hv l0]
  have hge : ∀ j, base ≤ j → j < base + 2048 → ∃ l : Fin 128, ∃ n, n < 16 ∧ j = base + 128 * n + l.val := by
    intro j h1 h2
    refine ⟨⟨(j - base) % 128, Nat.mod_lt _ (by omega)⟩, (j - base) / 128, by omega, ?_⟩
    show j = base + 128 * ((j - base) / 128) + (j - base) % 128
    omega
  have hmin : ∀ j, base ≤ j → j < base + 2048 → m ≤ f j := by
    intro j h1 h2
    obtain ⟨l, n, hn, rfl⟩ := hge j h1 h2
    refine (m1 l).trans ?_
    rw [hv l]
    exact (hK l).2.1 n (by omega) hn
  refine ⟨_, ⟨⟨by omega, ?_⟩, ?_, ?_⟩, hfm, rfl⟩
  · have h1 := (hK l0).1.2
    have h2 := l0.isLt
    omega
  · intro j h1 h2
    rw [hfm]; exact hmin j h1 h2
  · intro j h1 h2
    have h3 := (hK l0).1.2
    have h4 := l0.isLt
    have h5 : j < base + 2048 := by omega
    rw [hfm]
    refine lt_of_le_of_ne (hmin j h1 h5) fun he => ?_
    obtain ⟨l, n, hn, rfl⟩ := hge j h1 h5
    have hvl : v l = m := by
      refine le_antisymm ?_ (m1 l)
      rw [hv l, he]
      exact (hK l).2.1 n (by omega) hn
    have hKn : K l ≤ n := by
      by_contra hc
      have := (hK l).2.2 n (by omega) (by omega)
      rw [← hv l, hvl] at this
      exact absurd he (ne_of_lt this)
    have := w1 l (Finset.mem_univ _)
    rw [hw l hvl, toInt_ofNat (by have := hlt l; omega), toInt_ofNat (by have := hlt l0; omega)] at this
    omega

/-! ## The sweep over a list of pairs -/

/-- Of two (value, index) pairs the one of smaller value; of equal values the one of smaller index. -/
def lexMin (a b : EReal × BitVec 32) : EReal × BitVec 32 :=
  (if a.1 < b.1 then a.1 else b.1,
    if a.1 < b.1 ∨ (a.1 = b.1 ∧ a.2.toInt < b.2.toInt) then a.2 else b.2)

/-- `a` comes no later than `b`: smaller value, or the same value and no greater index. -/
def lexLe (a b : EReal × BitVec 32) : Prop := a.1 < b.1 ∨ (a.1 = b.1 ∧ a.2.toInt ≤ b.2.toInt)

/-- A pair comes no later than itself. -/
theorem lexLe.refl (a : EReal × BitVec 32) : lexLe a a := Or.inr ⟨rfl, le_refl _⟩

/-- Coming no later passes along two comparisons. -/
theorem lexLe.trans {a b c : EReal × BitVec 32} (h : lexLe a b) (h' : lexLe b c) : lexLe a c := by
  rcases h with h | ⟨h, k⟩ <;> rcases h' with h' | ⟨h', k'⟩
  · exact Or.inl (h.trans h')
  · exact Or.inl (h' ▸ h)
  · exact Or.inl (h ▸ h')
  · exact Or.inr ⟨h.trans h', k.trans k'⟩

/-- The smaller of two pairs is one of them and comes no later than either. -/
theorem lexMin_spec (a b : EReal × BitVec 32) :
    (lexMin a b = a ∨ lexMin a b = b) ∧ lexLe (lexMin a b) a ∧ lexLe (lexMin a b) b := by
  obtain ⟨a1, a2⟩ := a
  obtain ⟨b1, b2⟩ := b
  unfold lexMin lexLe
  rcases lt_trichotomy a1 b1 with h | h | h
  · simp [h]
  · subst h
    by_cases hk : a2.toInt < b2.toInt
    · simp [hk, hk.le]
    · simp [hk, not_lt.mp hk]
  · simp [h, h.ne', not_lt.mpr h.le]

/-- The sweep's result is the start or a member, and comes no later than the start or any member. -/
theorem foldl_lexMin (L : List (EReal × BitVec 32)) (z : EReal × BitVec 32) :
    (L.foldl lexMin z = z ∨ L.foldl lexMin z ∈ L) ∧ lexLe (L.foldl lexMin z) z ∧ ∀ p ∈ L, lexLe (L.foldl lexMin z) p := by
  induction L generalizing z with
  | nil => exact ⟨Or.inl rfl, lexLe.refl z, by simp⟩
  | cons a L ih =>
    obtain ⟨h1, h2, h3⟩ := ih (lexMin z a)
    obtain ⟨s1, s2, s3⟩ := lexMin_spec z a
    rw [List.foldl_cons]
    refine ⟨?_, h2.trans s2, fun p hp => ?_⟩
    · rcases h1 with h1 | h1
      · rcases s1 with s1 | s1
        · exact Or.inl (h1.trans s1)
        · exact Or.inr (by rw [h1, s1]; exact List.mem_cons_self)
      · exact Or.inr (List.mem_cons_of_mem _ h1)
    · rcases List.mem_cons.mp hp with rfl | hp
      · exact h2.trans s3
      · exact h3 p hp

/-- Swept from (infinity, zero) over the pairs of value and index, the index found is the first of the smallest value. -/
theorem sweep {f : ℕ → EReal} {L : List (EReal × BitVec 32)}
    (hL : ∀ p ∈ L, ∃ j, j < 4096 ∧ p = (f j, BitVec.ofNat 32 j)) (hm : ∀ j, j < 4096 → (f j, BitVec.ofNat 32 j) ∈ L) :
    ∃ k, FirstMin f 0 4096 k ∧ (L.foldl lexMin (⊤, 0#32)).2 = BitVec.ofNat 32 k := by
  obtain ⟨h1, -, h3⟩ := foldl_lexMin L (⊤, 0#32)
  generalize L.foldl lexMin (⊤, 0#32) = R at h1 h3 ⊢
  have hk : ∃ k, k < 4096 ∧ R = (f k, BitVec.ofNat 32 k) := by
    rcases h1 with rfl | h1
    · refine ⟨0, by omega, ?_⟩
      rcases h3 _ (hm 0 (by omega)) with h | ⟨h, -⟩
      · exact absurd h not_top_lt
      · exact Prod.ext h rfl
    · exact hL R h1
  obtain ⟨k, hk, rfl⟩ := hk
  refine ⟨k, ⟨⟨by omega, hk⟩, fun j _ hj => ?_, fun j _ hj => ?_⟩, rfl⟩
  · rcases h3 _ (hm j hj) with h | ⟨h, -⟩
    · exact le_of_lt h
    · exact le_of_eq h
  · rcases h3 _ (hm j (by omega)) with h | ⟨-, h⟩
    · exact h
    · change (BitVec.ofNat 32 k).toInt ≤ (BitVec.ofNat 32 j).toInt at h
      rw [toInt_ofNat (by omega), toInt_ofNat (by omega)] at h
      omega

end Cert.Spec
-- ==== Proof.KernelBlock.lean ====
/- What one block of the kernel computes, over the extended reals: for each of its rows, the parity of the first
   code nearest to the row. -/
module

public import proofs.«01_k».proof.Proof.Chain
public import proofs.«01_k».proof.Proof.Spec
public import Idealize.ShloMosaic.Lib.Pointwise

@[expose] public section

set_option maxRecDepth 16384

noncomputable section

namespace Cert.KernelIdeal.Block

open Idealize.ShloMosaic Idealize.SL.Sem Cert.KernelIdeal Cert.KernelIdeal.Gen Cert.KernelIdeal.Chain Cert.Spec

/-! ## The body over one block -/

section Generic

variable {F : FTy → Type} [FloatOps F]

/-- The row minima of a block of lanes. -/
def rowMin (v : FVec F S2048x128 .f32) : FVec F S2048 .f32 :=
  multiReduction .minimumf [1] S2048 v 0x7F800000#32 reduces_S2048x128_S2048 (.inl rfl) rfl

/-- The lane number at every place of a block. -/
def laneNo : IVec S2048x128 32 := iota .tc S2048x128 32 [1] iota_S2048x128_d1_w32

/-- What the body stores, from its block of queries and the four strips of either half of the codebook. -/
def body (x : Vec F S2048x128 .f32) (lo hi : ℕ → Vec F S512x128 .f32) : IVec S1x1x2048 32 :=
  k0_pay1 laneNo
    (k0_pay62 laneNo (accV (tile x lo) 16) (accT (tile x lo) 16) (rowMin (accV (tile x lo) 16)))
    (k0_pay63 (rowMin (accV (tile x lo) 16)))
    (accV (tile x hi) 15) (accT (tile x hi) 15) (tile x hi 15)

/-- The strips of the codebook's low half, as loaded. -/
def loStrip (c : Vec F S4096x128 .f32) : ℕ → Vec F S512x128 .f32
  | 0 => View.ld c r0_1
  | 1 => View.ld c r0_2
  | 2 => View.ld c r0_3
  | _ => View.ld c r0_4

/-- The strips of the codebook's high half, as loaded. -/
def hiStrip (c : Vec F S4096x128 .f32) : ℕ → Vec F S512x128 .f32
  | 0 => View.ld c r0_5
  | 1 => View.ld c r0_6
  | 2 => View.ld c r0_7
  | _ => View.ld c r0_8

/-- The block the body leaves is `body` of the two blocks it reads. -/
theorem out_eq (x : Vec F S2048x128 .f32) (c : Vec F S4096x128 .f32) :
    out0_2 x c = View.canon [⟨r0_9, body (View.ld x r0_0) (loStrip c) (hiStrip c)⟩] := by
  have a0 : k0_pay17 (View.ld x r0_0) (View.ld c r0_1) = accV (tile (View.ld x r0_0) (loStrip c)) 4 := lo_v4 _ (loStrip c)
  have a1 : k0_pay18 (View.ld x r0_0) (View.ld c r0_1) = accT (tile (View.ld x r0_0) (loStrip c)) 4 := lo_t4 _ (loStrip c)
  have a2 : k0_pay36 (k0_pay2 (View.ld x r0_0)) (k0_pay3 (View.ld x r0_0)) (accV (tile (View.ld x r0_0) (loStrip c)) 4)
    (View.ld c r0_2) (k0_pay19 (View.ld x r0_0) (View.ld c r0_2)) (View.ld c r0_3) = accV (tile (View.ld x r0_0) (loStrip c)) 9 :=
    lo_v9 _ (loStrip c)
  have a3 : k0_pay37 (k0_pay2 (View.ld x r0_0)) (k0_pay3 (View.ld x r0_0)) (accV (tile (View.ld x r0_0) (loStrip c)) 4)
    (accT (tile (View.ld x r0_0) (loStrip c)) 4) (View.ld c r0_2) (k0_pay19 (View.ld x r0_0) (View.ld c r0_2)) (View.ld c r0_3)
    = accT (tile (View.ld x r0_0) (loStrip c)) 9 := lo_t9 _ (loStrip c)
  have a4 : k0_pay38 (k0_pay2 (View.ld x r0_0)) (k0_pay3 (View.ld x r0_0)) (View.ld c r0_3) = tile (View.ld x r0_0) (loStrip c) 9 :=
    lo_d9 _ (loStrip c)
  unfold_out out0_2
  rw [a0, a1, a2, a3, a4]
  have a5 : k0_pay59 (k0_pay2 (View.ld x r0_0)) (k0_pay3 (View.ld x r0_0))
    (k0_pay33 (k0_pay2 (View.ld x r0_0)) (k0_pay3 (View.ld x r0_0)) (View.ld c r0_3)) (accV (tile (View.ld x r0_0) (loStrip c)) 9)
    (tile (View.ld x r0_0) (loStrip c) 9) (View.ld c r0_4) = accV (tile (View.ld x r0_0) (loStrip c)) 16 := lo_v16 _ (loStrip c)
  have a6 : k0_pay60 (k0_pay2 (View.ld x r0_0)) (k0_pay3 (View.ld x r0_0))
    (k0_pay33 (k0_pay2 (View.ld x r0_0)) (k0_pay3 (View.ld x r0_0)) (View.ld c r0_3)) (accV (tile (View.ld x r0_0) (loStrip c)) 9)
    (accT (tile (View.ld x r0_0) (loStrip c)) 9) (tile (View.ld x r0_0) (loStrip c) 9) (View.ld c r0_4)
    = accT (tile (View.ld x r0_0) (loStrip c)) 16 := lo_t16 _ (loStrip c)
  have b0 : k0_pay78 (k0_pay2 (View.ld x r0_0)) (k0_pay3 (View.ld x r0_0)) (View.ld c r0_5)
    = accV (tile (View.ld x r0_0) (hiStrip c)) 4 := hi_v4 _ (hiStrip c)
  have b1 : k0_pay92 (k0_pay2 (View.ld x r0_0)) (k0_pay3 (View.ld x r0_0))
    (k0_pay75 (k0_pay2 (View.ld x r0_0)) (k0_pay3 (View.ld x r0_0)) (View.ld c r0_5))
    (k0_pay77 (k0_pay2 (View.ld x r0_0)) (k0_pay3 (View.ld x r0_0)) (View.ld c r0_5))
    (accV (tile (View.ld x r0_0) (hiStrip c)) 4) 3#32 (View.ld c r0_6) = accT (tile (View.ld x r0_0) (hiStrip c)) 8 :=
    hi_t8 _ (hiStrip c)
  have b2 : k0_pay91 (k0_pay2 (View.ld x r0_0)) (k0_pay3 (View.ld x r0_0)) (accV (tile (View.ld x r0_0) (hiStrip c)) 4)
    (View.ld c r0_6) = accV (tile (View.ld x r0_0) (hiStrip c)) 8 := hi_v8 _ (hiStrip c)
  have b3 : k0_pay115 (k0_pay2 (View.ld x r0_0)) (k0_pay3 (View.ld x r0_0)) (accV (tile (View.ld x r0_0) (hiStrip c)) 8)
    (k0_pay93 (k0_pay2 (View.ld x r0_0)) (k0_pay3 (View.ld x r0_0)) (View.ld c r0_7)) (View.ld c r0_8)
    = accV (tile (View.ld x r0_0) (hiStrip c)) 15 := hi_v15 _ (hiStrip c)
  have b4 : k0_pay116 (k0_pay2 (View.ld x r0_0)) (k0_pay3 (View.ld x r0_0)) (accV (tile (View.ld x r0_0) (hiStrip c)) 8)
    (accT (tile (View.ld x r0_0) (hiStrip c)) 8)
    (k0_pay93 (k0_pay2 (View.ld x r0_0)) (k0_pay3 (View.ld x r0_0)) (View.ld c r0_7)) (View.ld c r0_8)
    = accT (tile (View.ld x r0_0) (hiStrip c)) 15 := hi_t15 _ (hiStrip c)
  have b5 : k0_pay117 (k0_pay2 (View.ld x r0_0)) (k0_pay3 (View.ld x r0_0)) (View.ld c r0_8)
    = tile (View.ld x r0_0) (hiStrip c) 15 := hi_d15 _ (hiStrip c)
  unfold k0_pay61
  rw [a5, a6, b0, b1, b2, b3, b4, b5]
  rfl

end Generic

/-! ## Its values -/

variable (x : FVec Ideal S2048x128 .f32) (s : ℕ → FVec Ideal S512x128 .f32)

/-- A strip at a point is the distance of a query row to a code row. -/
theorem strip_at (c : FVec Ideal S512x128 .f32) (p : Fin 2048) (q : Fin 512) :
    strip (F := Ideal) x c (ix2 p q) = rowDist (fun i => x (ix2 p i)) (fun i => c (ix2 q i)) := by
  unfold rowDist
  rw [← sum_double]
  pointwise [strip, k0_pay33, k0_pay2, k0_pay3]

/-- Tile `n` at a point: the distance of a query row to row `128 (n % 4) + l` of strip `n / 4`. -/
theorem tile_at (n : ℕ) (p : Fin 2048) (l : Fin 128) :
    tile (F := Ideal) x s n (ix2 p l) = rowDist (fun i => x (ix2 p i)) (fun i => s (n / 4)
      (ix2 ⟨128 * (n % 4) + l.val, by have := l.isLt; omega⟩ i)) := by
  rw [← strip_at]
  unfold tile
  refine congrArg (strip (F := Ideal) x (s (n / 4))) (funext fun a => ?_)
  match a with
  | ⟨0, _⟩ => exact Fin.ext (Nat.zero_add _)
  | ⟨1, _⟩ => exact Fin.ext rfl

variable (D : ℕ → FVec Ideal S2048x128 .f32)

/-- One step of a lane's value. -/
theorem accV_at (n : ℕ) (y : S2048x128.Idx) : accV D (n + 1) y = if D n y < accV D n y then D n y else accV D n y :=
  select_olt _ _ _ _

/-- One step of a lane's tile number. -/
theorem accT_at (n : ℕ) (y : S2048x128.Idx) :
    accT D (n + 1) y = if D n y < accV D n y then BitVec.ofNat 32 n else accT D n y :=
  select_olt _ _ _ _

/-- Every lane holds, after the first `n + 1` tiles, its smallest value and the first tile holding it. -/
theorem lane (y : S2048x128.Idx) (n : ℕ) : Lane (fun m => D m y) (n + 1) (accV D (n + 1) y) (accT D (n + 1) y) := by
  have hv := fun m => accV_at D m y
  have ht := fun m => accT_at D m y
  have h0 : accV D 0 y = (⊤ : EReal) := ofBits_top
  induction n with
  | zero =>
    rw [hv, ht, h0]
    exact Lane.first (fun m => D m y)
  | succ n ih =>
    rw [hv (n + 1), ht (n + 1)]
    exact ih.step

/-- The row minima at a row. -/
theorem rowMin_at (v : FVec Ideal S2048x128 .f32) (p : Fin 2048) :
    rowMin (F := Ideal) v (ix1 p) = (Finset.univ : Finset (Fin 128)).fold min ⊤ fun l => v (ix2 p l) := by
  rw [← ofBits_top]
  pointwise [rowMin]

/-- The low half's winner at a row. -/
theorem winner_lo (v : FVec Ideal S2048x128 .f32) (t : IVec S2048x128 32) (m : FVec Ideal S2048 .f32) (p : Fin 2048) :
    k0_pay62 (F := Ideal) laneNo v t m (ix1 p) = (Finset.univ : Finset (Fin 128)).fold IntOp.minsi 2147483647#32
      fun l => proposal 0 (v (ix2 p l)) (t (ix2 p l)) (m (ix1 p)) l := by
  unfold proposal
  pointwise [k0_pay62, laneNo]
  rfl

/-- What the body stores at a row, from the state before the last tile: the low bit of the high half's winner where
    its value is smaller than the low half's, else of the low half's winner. -/
theorem winner (i : IVec S2048 32) (m : FVec Ideal S2048 .f32) (v : FVec Ideal S2048x128 .f32) (t : IVec S2048x128 32)
    (d : FVec Ideal S2048x128 .f32) (v' : Fin 128 → EReal) (t' : Fin 128 → BitVec 32) (p : Fin 2048)
    (hv : ∀ l : Fin 128, v' l = if d (ix2 p l) < v (ix2 p l) then d (ix2 p l) else v (ix2 p l))
    (ht : ∀ l : Fin 128, t' l = if d (ix2 p l) < v (ix2 p l) then 15#32 else t (ix2 p l)) :
    k0_pay1 (F := Ideal) laneNo i m v t d (ix3 0 0 p)
      = (if (Finset.univ : Finset (Fin 128)).fold min ⊤ v' < m (ix1 p) then
          (Finset.univ : Finset (Fin 128)).fold IntOp.minsi 2147483647#32
            fun l => proposal 2048 (v' l) (t' l) ((Finset.univ : Finset (Fin 128)).fold min ⊤ v') l
        else i (ix1 p)) &&& 1#32 := by
  obtain rfl : v' = fun l => if d (ix2 p l) < v (ix2 p l) then d (ix2 p l) else v (ix2 p l) := funext hv
  obtain rfl : t' = fun l => if d (ix2 p l) < v (ix2 p l) then 15#32 else t (ix2 p l) := funext ht
  unfold proposal
  rw [← ofBits_top]
  pointwise [k0_pay1, laneNo]
  rfl

/-! ## The block -/

/-- A half's lanes after its sixteen tiles, where the half's strips hold the codes from `base` on. -/
theorem half (c : ℕ → Fin 128 → EReal) (base : ℕ) (p : Fin 2048)
    (hs : ∀ u, u < 4 → ∀ (q : Fin 512) (i : Fin 128), s u (ix2 q i) = c (base + 512 * u + q.val) i) (l : Fin 128) :
    Lane (fun n => rowDist (fun i => x (ix2 p i)) (c (base + 128 * n + l.val))) 16
      (accV (tile (F := Ideal) x s) 16 (ix2 p l)) (accT (tile (F := Ideal) x s) 16 (ix2 p l)) := by
  obtain ⟨k, ⟨⟨k1, k2⟩, k3, k4⟩, hv, ht⟩ := lane (tile (F := Ideal) x s) (ix2 p l) 15
  have hd : ∀ n, n < 16 → tile (F := Ideal) x s n (ix2 p l)
      = rowDist (fun i => x (ix2 p i)) (c (base + 128 * n + l.val)) := by
    intro n hn
    rw [tile_at]
    refine congrArg _ (funext fun i => ?_)
    rw [hs _ (by omega)]
    refine congrArg (fun j => c j i) ?_
    show base + 512 * (n / 4) + (128 * (n % 4) + l.val) = _
    omega
  refine ⟨k, ⟨⟨k1, k2⟩, fun j h1 h2 => ?_, fun j h1 h2 => ?_⟩, ?_, ht⟩
  · have := k3 j h1 h2
    simp only [hd k k2, hd j h2] at this
    exact this
  · have := k4 j h1 h2
    simp only [hd k k2, hd j (by omega)] at this
    exact this
  · rw [hv]; exact hd k k2

/-- The block's entry for a row: the low bit of the first code, of all `4096`, nearest to the row. -/
theorem body_at (lo hi : ℕ → FVec Ideal S512x128 .f32) (c : ℕ → Fin 128 → EReal) (p : Fin 2048)
    (hlo : ∀ u, u < 4 → ∀ (q : Fin 512) (i : Fin 128), lo u (ix2 q i) = c (0 + 512 * u + q.val) i)
    (hhi : ∀ u, u < 4 → ∀ (q : Fin 512) (i : Fin 128), hi u (ix2 q i) = c (2048 + 512 * u + q.val) i) :
    ∃ k, FirstMin (fun j => rowDist (fun i => x (ix2 p i)) (c j)) 0 4096 k
      ∧ body (F := Ideal) x lo hi (ix3 0 0 p) = BitVec.ofNat 32 k &&& 1#32 := by
  have hl := half x lo c 0 p hlo
  have hh := half x hi c 2048 p hhi
  have ev := fun l : Fin 128 => accV_at (tile (F := Ideal) x hi) 15 (ix2 p l)
  have et := fun l : Fin 128 => accT_at (tile (F := Ideal) x hi) 15 (ix2 p l)
  have e63 : ∀ v : FVec Ideal S2048 .f32, k0_pay63 (F := Ideal) v (ix1 p) = v (ix1 p) := fun _ => rfl
  unfold body
  rw [winner _ _ _ _ _ _ _ p ev et, winner_lo, e63, rowMin_at]
  generalize accV (tile (F := Ideal) x lo) 16 = v1 at hl ⊢
  generalize accT (tile (F := Ideal) x lo) 16 = t1 at hl ⊢
  generalize accV (tile (F := Ideal) x hi) (15 + 1) = v2 at hh ⊢
  generalize accT (tile (F := Ideal) x hi) (15 + 1) = t2 at hh ⊢
  obtain ⟨k1, a1, a2, a3⟩ := lanes (f := fun j => rowDist (fun i => x (ix2 p i)) (c j)) (base := 0) (by omega) hl
  obtain ⟨k2, b1, b2, b3⟩ := lanes (f := fun j => rowDist (fun i => x (ix2 p i)) (c j)) (base := 2048) (by omega) hh
  refine ⟨_, a1.halves b1, ?_⟩
  rw [a3, b3, ← a2, ← b2]
  by_cases h : rowDist (fun i => x (ix2 p i)) (c k2) < rowDist (fun i => x (ix2 p i)) (c k1)
  · rw [if_pos h, if_pos h]
  · rw [if_neg h, if_neg h]

end Cert.KernelIdeal.Block

end
-- ==== Proof.KernelRun.lean ====
/- What the kernel's result array holds after the run, over the extended reals: at every query the label of the
   query, and the same again after the host has flattened it. -/
module

public import proofs.«01_k».proof.Proof.KernelBlock
public import Idealize.ShloMosaic.Lib.Pipeline.ValueKit
public import Idealize.ShloMosaic.Lib.StableHlo.RunRead

@[expose] public section

set_option maxRecDepth 16384

noncomputable section

namespace Cert.KernelIdeal.Out

open Idealize.ShloMosaic Idealize.ShloMosaic.TcCoe Idealize.SL.Sem
open Cert.KernelIdeal Cert.KernelIdeal.Gen Cert.KernelIdeal.Chain Cert.KernelIdeal.Block Cert.Spec

variable (m : (l : Loc nD τ sig) → Buf (Elt Ideal) l)

/-- The block numbers of the three windows at a grid point. -/
theorem idx : ∀ t : Fin cfg0.N, win0_0.index t = ![(grid0.coords t 0).val, 0] ∧ win0_1.index t = ![0, 0]
    ∧ win0_2.index t = ![(grid0.coords t 0).val, 0, 0] := (by decide +kernel : ∀ t : Fin grid0.N, _)

/-- The labels as the kernel's array holds them: query `2048 a + b` at `(a, 0, b)`. -/
def labels (X C : FVec Ideal S4096x128 .f32) : IVec S2x1x2048 32 :=
  fun y => label X C (2048 * (y 0).val + (y 2).val)

/-- The queries' block at a grid point, at an entry. -/
theorem block0 (c : Dev nD) (t : Fin cfg0.N) (p : Fin 2048) (i : Fin 128) :
    iblk m c 0 t (ix2 p i) = row (m ((c : Thread nD τ).loc main_arg0)) (2048 * (grid0.coords t 0).val + p.val) i := by
  have h : (grid0.coords t 0).val < 2 := (grid0.coords t 0).isLt
  unfold row
  blk_ext [iblk, V, idx t]
  rw [Fin.val_ofNat]
  omega

/-- The codebook's block at a grid point, at an entry. -/
theorem block1 (c : Dev nD) (t : Fin cfg0.N) (a : Fin 4096) (i : Fin 128) :
    iblk m c 1 t (ix2 a i) = row (m ((c : Thread nD τ).loc main_arg1)) a.val i := by
  unfold row
  blk_ext [iblk, V, idx t]
  rw [Fin.val_ofNat]
  omega

/-- The codebook's strips hold its rows in order: the low half's, -/
theorem lo_at (c : Dev nD) (t : Fin cfg0.N) (u : ℕ) (hu : u < 4) (q : Fin 512) (i : Fin 128) :
    loStrip (iblk m c 1 t) u (ix2 q i) = row (m ((c : Thread nD τ).loc main_arg1)) (0 + 512 * u + q.val) i := by
  have := q.isLt
  refine Eq.trans ?_ (block1 m c t ⟨0 + 512 * u + q.val, by omega⟩ i)
  interval_cases u <;> unfold loStrip <;> pointwise

/-- and the high half's. -/
theorem hi_at (c : Dev nD) (t : Fin cfg0.N) (u : ℕ) (hu : u < 4) (q : Fin 512) (i : Fin 128) :
    hiStrip (iblk m c 1 t) u (ix2 q i) = row (m ((c : Thread nD τ).loc main_arg1)) (2048 + 512 * u + q.val) i := by
  have := q.isLt
  refine Eq.trans ?_ (block1 m c t ⟨2048 + 512 * u + q.val, by omega⟩ i)
  interval_cases u <;> unfold hiStrip <;> pointwise

/-- One entry of the block the body leaves at a grid point. -/
theorem point (c : Dev nD) (t : Fin cfg0.N) (p : Fin 2048) :
    body (F := Ideal) (iblk m c 0 t) (loStrip (iblk m c 1 t)) (hiStrip (iblk m c 1 t)) (ix3 0 0 p)
      = label (m ((c : Thread nD τ).loc main_arg0)) (m ((c : Thread nD τ).loc main_arg1))
          (2048 * (grid0.coords t 0).val + p.val) := by
  obtain ⟨k, h1, h2⟩ := body_at (iblk m c 0 t) (loStrip (iblk m c 1 t)) (hiStrip (iblk m c 1 t))
    (row (m ((c : Thread nD τ).loc main_arg1))) p (lo_at m c t) (hi_at m c t)
  have e : (fun i : Fin 128 => iblk m c 0 t (ix2 p i))
      = row (m ((c : Thread nD τ).loc main_arg0)) (2048 * (grid0.coords t 0).val + p.val) := by
    funext i
    exact block0 m c t p i
  rw [e] at h1
  rw [h2]
  unfold label
  rw [h1.nearest_eq]

/-- The array the kernel leaves. -/
theorem final (c : Dev nD) : (dats m 0 c).arrAt 2 cfg0.N
    = labels (m ((c : Thread nD τ).loc main_arg0)) (m ((c : Thread nD τ).loc main_arg1)) := by
  refine (dats m 0 c).arrAt_eq_of_covers 2 _ (by decide +kernel) fun t _ y => ?_
  blk_simp
  rw [after0_2, out_eq]
  frame_out
  idx_vars y
  obtain rfl : y0 = 0 := Subsingleton.elim _ _
  obtain rfl : y1 = 0 := Subsingleton.elim _ _
  refine (point m c t y2).trans ?_
  unfold labels
  refine congrArg _ ?_
  blk_simp [idx t]
  rfl

/-- Flattening the array of labels puts them in order. -/
theorem flatten (X C : FVec Ideal S4096x128 .f32) (q : S4096.Idx) :
    shapeCast S4096 (labels X C) shapeCasts_S2x1x2048_S4096 q = flat X C q := by
  idx_vars q
  pointwise [labels, flat]
  rw [Nat.div_add_mod]

/-- The result buffer after the host's reshape: the labels in order. -/
theorem result (c : Dev nD) : Pipeline.afterTail₀ cfgs (dats m) 0 (V0 m) [hostOps1] c main_v1
    = flat (m ((c : Thread nD τ).loc main_arg0)) (m ((c : Thread nD τ).loc main_arg1)) := by
  unfold Pipeline.afterTail₀
  simp only [List.flatten_cons, List.flatten_nil, List.append_nil, hostOps1]
  after_reads_simp
  have h : Pipeline.withArrays (cfgs 0).spec c (V0 m c) (fun w => (dats m 0 c).arrAt w (cfgs 0).N) (Proc.tc.devRef main_v0)
      = labels (m ((c : Thread nD τ).loc main_arg0)) (m ((c : Thread nD τ).loc main_arg1)) :=
    (Pipeline.withArrays_arr (cfgs 0).spec (by decide) c (V0 m c) (fun w => (dats m 0 c).arrAt w (cfgs 0).N) 2).trans (final m c)
  rw [h]
  exact funext fun q => flatten _ _ q

end Cert.KernelIdeal.Out

end
-- ==== Proof.RefRun.lean ====
/- The reference program's run: its host operations as four straight lines (the class table, the
   distances, the least index, the look-up), and what the result buffer and the arguments hold at the end. -/
module

public import proofs.«01_k».proof.Defs
public import proofs.«01_k».proof.Proof.Gen.ReferenceIdeal
public import Idealize.ShloMosaic.Lib.Claim
public import Idealize.ShloMosaic.Lib.Pipeline.Regions
public import Idealize.ShloMosaic.Lib.StableHlo.RunRead
public import Idealize.ShloMosaic.Lib.Quiescent

@[expose] public section

set_option maxRecDepth 16384

noncomputable section

namespace Cert.ReferenceIdeal.Run

open Idealize.ShloMosaic Idealize.SL.Sem Cert.ReferenceIdeal
open Cert.ReferenceIdeal.Facts₀ Cert.ReferenceIdeal.Facts

variable {F : FTy → Type} [FloatOps F]

/-- The operations that build the class table `j % 2`. -/
def opsTable : List (HloOp τ sig (Elt F)) := [
  StableHlo.nullary main_v0 (iotaInDim S4096 32 0),
  StableHlo.nullary main_c (constantI S_ 32 2#32),
  StableHlo.TRef.unary (.of main_c : StableHlo.TRef sig ⟨S_, .i32⟩) main_call0.v0 id,
  StableHlo.TRef.nullary main_call0.c (constantI S_ 32 0#32),
  StableHlo.TRef.binary main_call0.v0 main_call0.c main_call0.v1 (cmpi .eq),
  StableHlo.TRef.nullary main_call0.c_0 (constantI S_ 32 1#32),
  StableHlo.TRef.ternary main_call0.v1 main_call0.c_0 main_call0.v0 main_call0.call0.v0 select,
  StableHlo.TRef.unary main_call0.call0.v0 main_call0.v3 (broadcastInDim S4096 ![] bcast_S_S4096),
  StableHlo.TRef.binary (.of main_v0 : StableHlo.TRef sig ⟨S4096, .i32⟩) main_call0.v3 main_call0.v4 Host.remsi,
  StableHlo.TRef.nullary main_call0.c_1 (constantI S_ 32 0#32),
  StableHlo.TRef.unary main_call0.c_1 main_call0.v5 (broadcastInDim S4096 ![] bcast_S_S4096),
  StableHlo.TRef.binary main_call0.v4 main_call0.v5 main_call0.v6 (cmpi .ne),
  StableHlo.TRef.nullary main_call0.c_2 (constantI S_ 32 0#32),
  StableHlo.TRef.unary main_call0.c_2 main_call0.v7 (broadcastInDim S4096 ![] bcast_S_S4096),
  StableHlo.TRef.binary main_call0.v4 main_call0.v7 main_call0.v8 (cmpi .slt),
  StableHlo.TRef.nullary main_call0.c_3 (constantI S_ 32 0#32),
  StableHlo.TRef.binary main_call0.call0.v0 main_call0.c_3 main_call0.v9 (cmpi .slt),
  StableHlo.TRef.unary main_call0.v9 main_call0.v10 (broadcastInDim S4096 ![] bcast_S_S4096),
  StableHlo.TRef.binary main_call0.v8 main_call0.v10 main_call0.v11 (cmpi .ne),
  StableHlo.TRef.binary main_call0.v11 main_call0.v6 main_call0.v12 andi,
  StableHlo.TRef.unary main_call0.call0.v0 main_call0.v13 (broadcastInDim S4096 ![] bcast_S_S4096),
  StableHlo.TRef.binary main_call0.v4 main_call0.v13 main_call0.v14 addi,
  StableHlo.TRef.ternary main_call0.v12 main_call0.v14 main_call0.v4 main_call0.v15 select]

/-- The operations that build the distance matrix. -/
def opsDist : List (HloOp τ sig (Elt F)) := [
  StableHlo.binary main_arg0 main_arg0 main_v2 (mulf : (⟨S4096x128, .f32⟩ : BufTy).Contents (Elt F) → (⟨S4096x128, .f32⟩ : BufTy).Contents (Elt F) → (⟨S4096x128, .f32⟩ : BufTy).Contents (Elt F)),
  StableHlo.nullary main_cst (constant S_ .f32 0x00000000#32),
  StableHlo.binary main_v2 main_cst main_v3 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
  StableHlo.unary main_v3 main_v4 (broadcastInDim S4096x1 ![0] bcast_S4096_S4096x1_0 : (⟨S4096, .f32⟩ : BufTy).Contents (Elt F) → (⟨S4096x1, .f32⟩ : BufTy).Contents (Elt F)),
  StableHlo.binary main_arg1 main_arg1 main_v5 (mulf : (⟨S4096x128, .f32⟩ : BufTy).Contents (Elt F) → (⟨S4096x128, .f32⟩ : BufTy).Contents (Elt F) → (⟨S4096x128, .f32⟩ : BufTy).Contents (Elt F)),
  StableHlo.nullary main_cst_0 (constant S_ .f32 0x00000000#32),
  StableHlo.binary main_v5 main_cst_0 main_v6 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
  StableHlo.unary main_v6 main_v7 (broadcastInDim S1x4096 ![1] bcast_S4096_S1x4096_1 : (⟨S4096, .f32⟩ : BufTy).Contents (Elt F) → (⟨S1x4096, .f32⟩ : BufTy).Contents (Elt F)),
  StableHlo.unary main_v4 main_v8 (broadcastInDim S4096x4096 ![0, 1] bcast_S4096x1_S4096x4096_0_1 : (⟨S4096x1, .f32⟩ : BufTy).Contents (Elt F) → (⟨S4096x4096, .f32⟩ : BufTy).Contents (Elt F)),
  StableHlo.unary main_v7 main_v9 (broadcastInDim S4096x4096 ![0, 1] bcast_S1x4096_S4096x4096_0_1 : (⟨S1x4096, .f32⟩ : BufTy).Contents (Elt F) → (⟨S4096x4096, .f32⟩ : BufTy).Contents (Elt F)),
  StableHlo.binary main_v8 main_v9 main_v10 (addf : (⟨S4096x4096, .f32⟩ : BufTy).Contents (Elt F) → (⟨S4096x4096, .f32⟩ : BufTy).Contents (Elt F) → (⟨S4096x4096, .f32⟩ : BufTy).Contents (Elt F)),
  StableHlo.unary main_arg1 main_v11 ((transpose S128x4096 [1, 0] · transposes_S4096x128_S128x4096_1_0) : (⟨S4096x128, .f32⟩ : BufTy).Contents (Elt F) → (⟨S128x4096, .f32⟩ : BufTy).Contents (Elt F)),
  StableHlo.binary main_arg0 main_v11 main_v12 ((fun l r => Host.dotGeneral dot_S4096x128_S128x4096_S4096x4096_1_0_0_1_n_n none l r) : (⟨S4096x128, .f32⟩ : BufTy).Contents (Elt F) → (⟨S128x4096, .f32⟩ : BufTy).Contents (Elt F) → (⟨S4096x4096, .f32⟩ : BufTy).Contents (Elt F)),
  StableHlo.nullary main_cst_1 (constant S_ .f32 0x40000000#32),
  StableHlo.unary main_cst_1 main_v13 (broadcastInDim S4096x4096 ![] bcast_S_S4096x4096 : (⟨S_, .f32⟩ : BufTy).Contents (Elt F) → (⟨S4096x4096, .f32⟩ : BufTy).Contents (Elt F)),
  StableHlo.binary main_v13 main_v12 main_v14 (mulf : (⟨S4096x4096, .f32⟩ : BufTy).Contents (Elt F) → (⟨S4096x4096, .f32⟩ : BufTy).Contents (Elt F) → (⟨S4096x4096, .f32⟩ : BufTy).Contents (Elt F)),
  StableHlo.binary main_v10 main_v14 main_v15 (subf : (⟨S4096x4096, .f32⟩ : BufTy).Contents (Elt F) → (⟨S4096x4096, .f32⟩ : BufTy).Contents (Elt F) → (⟨S4096x4096, .f32⟩ : BufTy).Contents (Elt F)),
  StableHlo.nullary main_cst_2 (constant S_ .f32 0x00000000#32),
  StableHlo.unary main_cst_2 main_v16 (broadcastInDim S4096x4096 ![] bcast_S_S4096x4096 : (⟨S_, .f32⟩ : BufTy).Contents (Elt F) → (⟨S4096x4096, .f32⟩ : BufTy).Contents (Elt F)),
  StableHlo.binary main_v15 main_v16 main_v17 (maximumf : (⟨S4096x4096, .f32⟩ : BufTy).Contents (Elt F) → (⟨S4096x4096, .f32⟩ : BufTy).Contents (Elt F) → (⟨S4096x4096, .f32⟩ : BufTy).Contents (Elt F)),
  StableHlo.unary main_v17 main_v18 (Host.sqrt : (⟨S4096x4096, .f32⟩ : BufTy).Contents (Elt F) → (⟨S4096x4096, .f32⟩ : BufTy).Contents (Elt F))]

/-- The operations that take the least index along the rows. -/
def opsArg : List (HloOp τ sig (Elt F)) := [
  StableHlo.TRef.nullary main_call1.v0 (iotaInDim S4096x4096 32 1),
  StableHlo.TRef.nullary main_call1.cst (constant S_ .f32 0x7F800000#32),
  StableHlo.TRef.nullary main_call1.c (constantI S_ 32 0#32),
  StableHlo.TRef.quaternary (.of main_v18 : StableHlo.TRef sig ⟨S4096x4096, .f32⟩) main_call1.v0 main_call1.cst main_call1.c main_call1.v1_0 (fun x y u v j => (Host.argReduce reducer_argmin_f32_i32 x y u v reducesTo_S4096x4096_S4096_d1 h_S_ j).1),
  StableHlo.TRef.quaternary (.of main_v18 : StableHlo.TRef sig ⟨S4096x4096, .f32⟩) main_call1.v0 main_call1.cst main_call1.c main_call1.v1_1 (fun x y u v j => (Host.argReduce reducer_argmin_f32_i32 x y u v reducesTo_S4096x4096_S4096_d1 h_S_ j).2)]

/-- The operations that look the winners up in the table. -/
def opsTake : List (HloOp τ sig (Elt F)) := [
  StableHlo.TRef.nullary main_call2.c (constantI S_ 32 0#32),
  StableHlo.TRef.unary main_call2.c main_call2.v0 (broadcastInDim S4096 ![] bcast_S_S4096),
  StableHlo.TRef.binary (.of main_v19 : StableHlo.TRef sig ⟨S4096, .i32⟩) main_call2.v0 main_call2.v1 (cmpi .slt),
  StableHlo.TRef.nullary main_call2.c_0 (constantI S_ 32 4096#32),
  StableHlo.TRef.unary main_call2.c_0 main_call2.v2 (broadcastInDim S4096 ![] bcast_S_S4096),
  StableHlo.TRef.binary (.of main_v19 : StableHlo.TRef sig ⟨S4096, .i32⟩) main_call2.v2 main_call2.v3 addi,
  StableHlo.TRef.ternary main_call2.v1 main_call2.v3 (.of main_v19 : StableHlo.TRef sig ⟨S4096, .i32⟩) main_call2.call0.v0 select,
  StableHlo.TRef.unary main_call2.call0.v0 main_call2.v5 (broadcastInDim S4096x1 ![0] bcast_S4096_S4096x1_0),
  StableHlo.TRef.nullary main_call2.c_1 (constantI S1 32 4095#32),
  StableHlo.TRef.nullary main_call2.c_2 (constantI S_ 32 0#32),
  StableHlo.TRef.unary main_call2.c_2 main_call2.v6 (broadcastInDim S4096x1 ![] bcast_S_S4096x1),
  StableHlo.TRef.binary main_call2.v5 main_call2.v6 main_call2.v7 (cmpi .sge),
  StableHlo.TRef.unary main_call2.c_1 main_call2.v8 (broadcastInDim S1x1 ![1] bcast_S1_S1x1_1),
  StableHlo.TRef.unary main_call2.v8 main_call2.v9 (broadcastInDim S4096x1 ![0, 1] bcast_S1x1_S4096x1_0_1),
  StableHlo.TRef.binary main_call2.v5 main_call2.v9 main_call2.v10 (cmpi .sle),
  StableHlo.TRef.binary main_call2.v7 main_call2.v10 main_call2.v11 andi,
  StableHlo.TRef.nullary main_call2.c_3 (constantI S_ 1 1#1),
  StableHlo.TRef.binary main_call2.v11 main_call2.c_3 main_call2.v12 (fun x v => Host.reduce IntOp.andi x v reducesTo_S4096x1_S4096_d1 h_S_),
  StableHlo.TRef.binary (.of main_v1 : StableHlo.TRef sig ⟨S4096, .i32⟩) main_call2.v5 main_call2.v13 (fun x i => Host.gather gather_S4096_S4096x1_S4096_n_0_n_n_0_1_1 x i),
  StableHlo.TRef.nullary main_call2.c_4 (constantI S_ 32 2147483648#32),
  StableHlo.TRef.unary main_call2.c_4 main_call2.v14 (broadcastInDim S4096 ![] bcast_S_S4096),
  StableHlo.TRef.ternary main_call2.v12 main_call2.v13 main_call2.v14 main_call2.v15 select]

/-- The whole program's operations, in order. -/
abbrev ops : List (HloOp τ sig (Elt F)) := opsTable ++ opsDist ++ opsArg ++ opsTake

/-- `main` runs exactly these operations. -/
theorem main_eq (d : Dev nD) : main (F := F) d = StableHlo.seq ops := by
  chain_rfl

/-- Each operation of `opsTable` touches the core's own buffers only. -/
theorem opsTable_sub : (opsTable (F := F)).Forall fun op => op.bufs ⊆ StableHlo.tcRefs τ sig := by
  simp only [opsTable, List.forall_cons, StableHlo.TRef.unary, StableHlo.TRef.nullary, StableHlo.TRef.binary,
    StableHlo.TRef.ternary, StableHlo.TRef.quaternary, StableHlo.nullary_bufs_sub, StableHlo.unary_bufs_sub,
    StableHlo.binary_bufs_sub, StableHlo.ternary_bufs_sub, StableHlo.quaternary_bufs_sub, true_and]
  exact trivial

/-- Each operation of `opsTable` determines its result. -/
theorem opsTable_fresh : (opsTable (F := F)).Forall fun op => op.fresh = ∅ := by
  simp only [opsTable, List.forall_cons]
  repeat' (first | apply And.intro | exact rfl | exact trivial)

/-- Each operation of `opsDist` touches the core's own buffers only. -/
theorem opsDist_sub : (opsDist (F := F)).Forall fun op => op.bufs ⊆ StableHlo.tcRefs τ sig := by
  simp only [opsDist, List.forall_cons, StableHlo.TRef.unary, StableHlo.TRef.nullary, StableHlo.TRef.binary,
    StableHlo.TRef.ternary, StableHlo.TRef.quaternary, StableHlo.nullary_bufs_sub, StableHlo.unary_bufs_sub,
    StableHlo.binary_bufs_sub, StableHlo.ternary_bufs_sub, StableHlo.quaternary_bufs_sub, true_and]
  exact trivial

/-- Each operation of `opsDist` determines its result. -/
theorem opsDist_fresh : (opsDist (F := F)).Forall fun op => op.fresh = ∅ := by
  simp only [opsDist, List.forall_cons]
  repeat' (first | apply And.intro | exact rfl | exact trivial)

/-- Each operation of `opsArg` touches the core's own buffers only. -/
theorem opsArg_sub : (opsArg (F := F)).Forall fun op => op.bufs ⊆ StableHlo.tcRefs τ sig := by
  simp only [opsArg, List.forall_cons, StableHlo.TRef.unary, StableHlo.TRef.nullary, StableHlo.TRef.binary,
    StableHlo.TRef.ternary, StableHlo.TRef.quaternary, StableHlo.nullary_bufs_sub, StableHlo.unary_bufs_sub,
    StableHlo.binary_bufs_sub, StableHlo.ternary_bufs_sub, StableHlo.quaternary_bufs_sub, true_and]
  exact trivial

/-- Each operation of `opsArg` determines its result. -/
theorem opsArg_fresh : (opsArg (F := F)).Forall fun op => op.fresh = ∅ := by
  simp only [opsArg, List.forall_cons]
  repeat' (first | apply And.intro | exact rfl | exact trivial)

/-- Each operation of `opsTake` touches the core's own buffers only. -/
theorem opsTake_sub : (opsTake (F := F)).Forall fun op => op.bufs ⊆ StableHlo.tcRefs τ sig := by
  simp only [opsTake, List.forall_cons, StableHlo.TRef.unary, StableHlo.TRef.nullary, StableHlo.TRef.binary,
    StableHlo.TRef.ternary, StableHlo.TRef.quaternary, StableHlo.nullary_bufs_sub, StableHlo.unary_bufs_sub,
    StableHlo.binary_bufs_sub, StableHlo.ternary_bufs_sub, StableHlo.quaternary_bufs_sub, true_and]
  exact trivial

/-- Each operation of `opsTake` determines its result. -/
theorem opsTake_fresh : (opsTake (F := F)).Forall fun op => op.fresh = ∅ := by
  simp only [opsTake, List.forall_cons]
  repeat' (first | apply And.intro | exact rfl | exact trivial)

/-- Each operation touches the core's own buffers only. -/
theorem ops_sub : (ops (F := F)).Forall fun op => op.bufs ⊆ StableHlo.tcRefs τ sig := by
  simp only [ops, List.forall_append]
  exact ⟨⟨⟨opsTable_sub, opsDist_sub⟩, opsArg_sub⟩, opsTake_sub⟩

/-- Each operation's result is determined. -/
theorem ops_fresh : ∀ op ∈ ops (F := F), op.fresh = ∅ := by
  refine List.forall_iff_forall_mem.mp ?_
  simp only [ops, List.forall_append]
  exact ⟨⟨⟨opsTable_fresh, opsDist_fresh⟩, opsArg_fresh⟩, opsTake_fresh⟩

/-- What the reference ends holding: every buffer of the core at its contents after the line. -/
theorem run (m : (ℓ : Loc nD τ sig) → Buf (Elt Ideal) ℓ) (g : Dev nD → PrngReg) :
    θ_run (defs (F := Ideal)) (onTc (τ := τ) (main (F := Ideal))) ⟨m, fun _ => 0, g⟩ fun r =>
      ∀ (d : Dev nD) (b : Ref sig .tc), r.2.mem ((d.tc : Thread nD τ).loc b)
        = StableHlo.after ops (StableHlo.launchContents m d) (Proc.devRef .tc b) :=
  StableHlo.run_seq (by decide) (by decide) (defs (F := Ideal)) main (fun _ => ops) main_eq (fun _ => ops_sub) m g
    (fun _ => ops_fresh)

end Cert.ReferenceIdeal.Run

end
-- ==== Proof.RefRead.lean ====
/- What each of the reference's four lines leaves: the class table, the distance matrix, the least index of
   every row, and the table looked up there, each as a term over the contents before the line. -/
module

public import proofs.«01_k».proof.Proof.RefRun

@[expose] public section

set_option maxRecDepth 16384

noncomputable section

namespace Cert.ReferenceIdeal.Run

open Idealize.ShloMosaic Idealize.SL.Sem Cert.ReferenceIdeal
open Cert.ReferenceIdeal.Facts₀ Cert.ReferenceIdeal.Facts

section Terms

variable {F : FTy → Type} [FloatOps F]

/-- The divisor of the remainder, guarded against zero. -/
def divisorT : IVec S_ 32 := select (cmpi .eq (constantI S_ 32 2#32) (constantI S_ 32 0#32)) (constantI S_ 32 1#32) (constantI S_ 32 2#32)

/-- The remainders of the class numbers before their sign is put right. -/
def remainderT : IVec S4096 32 := Host.remsi (iotaInDim S4096 32 0) (broadcastInDim S4096 ![] bcast_S_S4096 divisorT)

/-- The class table. -/
def tableT : IVec S4096 32 :=
  select (andi (cmpi .ne (cmpi .slt remainderT (broadcastInDim S4096 ![] bcast_S_S4096 (constantI S_ 32 0#32)))
      (broadcastInDim S4096 ![] bcast_S_S4096 (cmpi .slt divisorT (constantI S_ 32 0#32))))
    (cmpi .ne remainderT (broadcastInDim S4096 ![] bcast_S_S4096 (constantI S_ 32 0#32))))
    (addi remainderT (broadcastInDim S4096 ![] bcast_S_S4096 divisorT)) remainderT

/-- The distance matrix of the queries `X` and the codes `C`. -/
def distT (X C : FVec F S4096x128 .f32) : FVec F S4096x4096 .f32 :=
  Host.sqrt (maximumf
    (subf
      (addf
        (broadcastInDim S4096x4096 ![0, 1] bcast_S4096x1_S4096x4096_0_1 (broadcastInDim S4096x1 ![0] bcast_S4096_S4096x1_0
          (Host.reduceAdd (mulf X X) (constant S_ .f32 0x00000000#32) reducesTo_S4096x128_S4096_d1 h_S_)))
        (broadcastInDim S4096x4096 ![0, 1] bcast_S1x4096_S4096x4096_0_1 (broadcastInDim S1x4096 ![1] bcast_S4096_S1x4096_1
          (Host.reduceAdd (mulf C C) (constant S_ .f32 0x00000000#32) reducesTo_S4096x128_S4096_d1 h_S_))))
      (mulf (broadcastInDim S4096x4096 ![] bcast_S_S4096x4096 (constant S_ .f32 0x40000000#32))
        (Host.dotGeneral dot_S4096x128_S128x4096_S4096x4096_1_0_0_1_n_n none X
          (transpose S128x4096 [1, 0] C transposes_S4096x128_S128x4096_1_0))))
    (broadcastInDim S4096x4096 ![] bcast_S_S4096x4096 (constant S_ .f32 0x00000000#32)))

/-- The second results of a two-operand reduction. -/
def second {s t u : Shape} {axes : List (Fin s.rank)} (f : F .f32 × BitVec 32 → F .f32 × BitVec 32 → F .f32 × BitVec 32)
    (x : FVec F s .f32) (y : IVec s 32) (a : FVec F u .f32) (b : IVec u 32) (h : s.ReducesTo axes t) (hu : 0 < u.numel) : IVec t 32 :=
  fun j => (Host.argReduce f x y a b h hu j).2

/-- The least index of the smallest value in every row of `D`. -/
def argT (D : FVec F S4096x4096 .f32) : IVec S4096 32 :=
  second reducer_argmin_f32_i32 D (iotaInDim S4096x4096 32 1) (constant S_ .f32 0x7F800000#32) (constantI S_ 32 0#32)
    reducesTo_S4096x4096_S4096_d1 h_S_

/-- The positions looked up: counted from the end where negative. -/
def positionT (I : IVec S4096 32) : IVec S4096x1 32 :=
  broadcastInDim S4096x1 ![0] bcast_S4096_S4096x1_0
    (select (cmpi .slt I (broadcastInDim S4096 ![] bcast_S_S4096 (constantI S_ 32 0#32)))
      (addi I (broadcastInDim S4096 ![] bcast_S_S4096 (constantI S_ 32 4096#32))) I)

/-- Whether each position lies in the table. -/
def insideT (I : IVec S4096 32) : IVec S4096 1 :=
  Host.reduce IntOp.andi
    (andi (cmpi .sge (positionT I) (broadcastInDim S4096x1 ![] bcast_S_S4096x1 (constantI S_ 32 0#32)))
      (cmpi .sle (positionT I) (broadcastInDim S4096x1 ![0, 1] bcast_S1x1_S4096x1_0_1
        (broadcastInDim S1x1 ![1] bcast_S1_S1x1_1 (constantI S1 32 4095#32)))))
    (constantI S_ 1 1#1) reducesTo_S4096x1_S4096_d1 h_S_

/-- The table `T` looked up at `I`. -/
def takeT (T I : IVec S4096 32) : IVec S4096 32 :=
  select (insideT I) (Host.gather gather_S4096_S4096x1_S4096_n_0_n_n_0_1_1 T (positionT I))
    (broadcastInDim S4096 ![] bcast_S_S4096 (constantI S_ 32 2147483648#32))

end Terms

variable (V : Valuation τ sig (Elt Ideal))

/-- The first line leaves the class table. -/
theorem table_read : StableHlo.after (opsTable (F := Ideal)) V (Proc.devRef .tc main_v1) = tableT := by
  after_reads_simp
  rfl

/-- The second line leaves the distance matrix. -/
theorem dist_read : StableHlo.after (opsDist (F := Ideal)) V (Proc.devRef .tc main_v18)
    = distT (F := Ideal) (V (Proc.devRef .tc main_arg0)) (V (Proc.devRef .tc main_arg1)) := by
  after_reads_simp
  rfl

/-- The third line leaves the least indices. -/
theorem arg_read : StableHlo.after (opsArg (F := Ideal)) V (Proc.devRef .tc main_v19)
    = argT (F := Ideal) (V (Proc.devRef .tc main_v18)) := by
  after_reads_simp
  rfl

/-- The fourth line leaves the looked-up table. -/
theorem take_read : StableHlo.after (opsTake (F := Ideal)) V (Proc.devRef .tc main_v20)
    = takeT (V (Proc.devRef .tc main_v1)) (V (Proc.devRef .tc main_v19)) := by
  after_reads_simp
  rfl

/-- The first line leaves the first argument as it is. -/
theorem table_arg0 : StableHlo.after (opsTable (F := Ideal)) V (Proc.devRef .tc main_arg0) = V (Proc.devRef .tc main_arg0) := by
  after_reads_simp

/-- The first line leaves the second argument as it is. -/
theorem table_arg1 : StableHlo.after (opsTable (F := Ideal)) V (Proc.devRef .tc main_arg1) = V (Proc.devRef .tc main_arg1) := by
  after_reads_simp

/-- The second line leaves the first argument as it is. -/
theorem dist_arg0 : StableHlo.after (opsDist (F := Ideal)) V (Proc.devRef .tc main_arg0) = V (Proc.devRef .tc main_arg0) := by
  after_reads_simp

/-- The second line leaves the second argument as it is. -/
theorem dist_arg1 : StableHlo.after (opsDist (F := Ideal)) V (Proc.devRef .tc main_arg1) = V (Proc.devRef .tc main_arg1) := by
  after_reads_simp

/-- The third line leaves the first argument as it is. -/
theorem arg_arg0 : StableHlo.after (opsArg (F := Ideal)) V (Proc.devRef .tc main_arg0) = V (Proc.devRef .tc main_arg0) := by
  after_reads_simp

/-- The third line leaves the second argument as it is. -/
theorem arg_arg1 : StableHlo.after (opsArg (F := Ideal)) V (Proc.devRef .tc main_arg1) = V (Proc.devRef .tc main_arg1) := by
  after_reads_simp

/-- The fourth line leaves the first argument as it is. -/
theorem take_arg0 : StableHlo.after (opsTake (F := Ideal)) V (Proc.devRef .tc main_arg0) = V (Proc.devRef .tc main_arg0) := by
  after_reads_simp

/-- The fourth line leaves the second argument as it is. -/
theorem take_arg1 : StableHlo.after (opsTake (F := Ideal)) V (Proc.devRef .tc main_arg1) = V (Proc.devRef .tc main_arg1) := by
  after_reads_simp

/-- The second line leaves the table as it is. -/
theorem dist_table : StableHlo.after (opsDist (F := Ideal)) V (Proc.devRef .tc main_v1) = V (Proc.devRef .tc main_v1) := by
  after_reads_simp

/-- The third line leaves the table as it is. -/
theorem arg_table : StableHlo.after (opsArg (F := Ideal)) V (Proc.devRef .tc main_v1) = V (Proc.devRef .tc main_v1) := by
  after_reads_simp

/-- The whole program's result. -/
theorem result : StableHlo.after (ops (F := Ideal)) V (Proc.devRef .tc main_v20)
    = takeT tableT (argT (F := Ideal) (distT (F := Ideal) (V (Proc.devRef .tc main_arg0)) (V (Proc.devRef .tc main_arg1)))) := by
  rw [ops, StableHlo.after_append, StableHlo.after_append, StableHlo.after_append, take_read, arg_table, dist_table, table_read,
    arg_read, dist_read, table_arg0, table_arg1]

/-- The whole program leaves its first argument as it is. -/
theorem kept0 : StableHlo.after (ops (F := Ideal)) V (Proc.devRef .tc main_arg0) = V (Proc.devRef .tc main_arg0) := by
  rw [ops, StableHlo.after_append, StableHlo.after_append, StableHlo.after_append, take_arg0, arg_arg0, dist_arg0, table_arg0]

/-- The whole program leaves its second argument as it is. -/
theorem kept1 : StableHlo.after (ops (F := Ideal)) V (Proc.devRef .tc main_arg1) = V (Proc.devRef .tc main_arg1) := by
  rw [ops, StableHlo.after_append, StableHlo.after_append, StableHlo.after_append, take_arg1, arg_arg1, dist_arg1, table_arg1]

end Cert.ReferenceIdeal.Run

end
-- ==== Proof.RefValue.lean ====
/- What the reference's terms are, over the extended reals: the label of every query. -/
module

public import proofs.«01_k».proof.Proof.RefRead
public import proofs.«01_k».proof.Proof.Spec
public import Idealize.ShloMosaic.Lib.Pointwise
public import Idealize.ShloMosaic.Lib.Routing.OpsSet

@[expose] public section

set_option maxRecDepth 16384

noncomputable section

namespace Cert.ReferenceIdeal.Value

open Idealize.ShloMosaic Idealize.SL.Sem Cert.ReferenceIdeal Cert.ReferenceIdeal.Run Cert.Spec
open Cert.ReferenceIdeal.Facts₀ Cert.ReferenceIdeal.Facts

/-- An entry of the distance matrix is the distance of its row's query to its column's code. -/
theorem dist_at (X C : FVec Ideal S4096x128 .f32) (p q : Fin 4096) :
    distT (F := Ideal) X C (ix2 p q) = rowDist (row X p.val) (row C q.val) := by
  have hr : ∀ (A : FVec Ideal S4096x128 .f32) (r : Fin 4096) (i : Fin 128), row A r.val i = A (ix2 r i) := by
    intro A r i
    unfold row
    rw [show Fin.ofNat 4096 r.val = r from Fin.ext (Nat.mod_eq_of_lt r.isLt)]
  unfold rowDist
  simp only [hr]
  rw [← ofBits_two]
  pointwise [distT]

/-- The reducer of the least-index reduction is the lexicographic minimum. -/
theorem reducer_eq : reducer_argmin_f32_i32 (F := Ideal) = lexMin := by
  funext a b
  obtain ⟨a1, a2⟩ := a
  obtain ⟨b1, b2⟩ := b
  have hn : ∀ x y : EReal, FloatOps.cmpf (F := Ideal) (φ := .f32) .une x y = BitVec.ofBool (decide (x ≠ y)) := fun _ _ => rfl
  have hl : ∀ x y : EReal, FloatOps.cmpf (F := Ideal) (φ := .f32) .olt x y = BitVec.ofBool (decide (x < y)) := fun _ _ => rfl
  have he : ∀ x y : EReal, FloatOps.cmpf (F := Ideal) (φ := .f32) .oeq x y = BitVec.ofBool (decide (x = y)) := fun _ _ => rfl
  have hi : ∀ x y : BitVec 32, IntOp.cmpi .slt x y = BitVec.ofBool (decide (x.toInt < y.toInt)) := fun _ _ => rfl
  have ho : ∀ x y : BitVec 1, IntOp.ori x y = x ||| y := fun _ _ => rfl
  have ha : ∀ x y : BitVec 1, IntOp.andi x y = x &&& y := fun _ _ => rfl
  unfold reducer_argmin_f32_i32 lexMin
  simp only [hn, hl, he, hi, ho, ha, Scalar.select]
  by_cases h1 : a1 < b1 <;> by_cases h2 : a1 = b1 <;> by_cases h3 : a2.toInt < b2.toInt <;> simp [h1, h2, h3]

/-- A row's pairs are the pairs at the indices of the row. -/
theorem mem_fiber {s t : Shape} {axes : List (Fin s.rank)} {α β : Type} (x : s.Idx → α) (y : s.Idx → β) (h : s.ReducesTo axes t)
    (j : t.Idx) (p : α × β) : p ∈ Host.argReduceFiber x y h j ↔ ∃ i, h.drop i = j ∧ p = (x i, y i) := by
  unfold Host.argReduceFiber
  simp only [List.mem_map, List.mem_filter, List.mem_finRange, true_and, decide_eq_true_eq]
  constructor
  · rintro ⟨n, hn, rfl⟩
    exact ⟨_, hn, rfl⟩
  · rintro ⟨i, hi, rfl⟩
    exact ⟨s.rowMajor i, by rw [Equiv.symm_apply_apply]; exact hi, by rw [Equiv.symm_apply_apply]⟩

/-- The least-index reduction from (infinity, zero) is the sweep over the row's pairs. -/
theorem reduce_eq {s t u : Shape} {axes : List (Fin s.rank)} (x : FVec Ideal s .f32) (y : IVec s 32) (a : FVec Ideal u .f32)
    (b : IVec u 32) (h : s.ReducesTo axes t) (hu : 0 < u.numel) (ha : a (Shape.Idx.first hu) = (⊤ : EReal))
    (hb : b (Shape.Idx.first hu) = 0#32) (j : t.Idx) :
    second (F := Ideal) reducer_argmin_f32_i32 x y a b h hu j = ((Host.argReduceFiber x y h j).foldl lexMin (⊤, 0#32)).2 := by
  unfold second
  rw [Ideal.argReduce_eq_reduce2, Host.reduce2_eq_foldl_fiber, reducer_eq, ha, hb]

/-- The least-index reduction of a row whose entries are `f`: the first index at which `f` is smallest. -/
theorem arg_at (D : FVec Ideal S4096x4096 .f32) (f : ℕ → EReal) (p : Fin 4096) (h : ∀ q : Fin 4096, D (ix2 p q) = f q.val) :
    ∃ k, FirstMin f 0 4096 k ∧ argT (F := Ideal) D (ix1 p) = BitVec.ofNat 32 k := by
  have hd : ∀ i : S4096x4096.Idx, reducesTo_S4096x4096_S4096_d1.drop i = ix1 p ↔ i 0 = p := by
    intro i
    have e := reducesTo_S4096x4096_S4096_d1.drop_apply_val_of_eq i 0 0
    constructor
    · intro hi
      rw [hi] at e
      exact Fin.ext e.symm
    · intro hi
      funext b
      match b with
      | ⟨0, _⟩ => exact Fin.ext (e.trans (congrArg Fin.val hi))
  obtain ⟨k, h1, h2⟩ := sweep (f := f)
    (L := Host.argReduceFiber D (iotaInDim S4096x4096 32 1) reducesTo_S4096x4096_S4096_d1 (ix1 p)) (by
      intro x hx
      obtain ⟨i, hi, rfl⟩ := (mem_fiber _ _ _ _ _).mp hx
      have hn := (hd i).mp hi
      idx_vars i
      obtain rfl : i0 = p := hn
      exact ⟨i1.val, i1.isLt, Prod.ext (h i1) rfl⟩) (by
      intro j hj
      refine (mem_fiber _ _ _ _ _).mpr ⟨ix2 p ⟨j, hj⟩, (hd _).mpr rfl, ?_⟩
      exact Prod.ext (h ⟨j, hj⟩).symm rfl)
  refine ⟨k, h1, ?_⟩
  have ha : constant (F := Ideal) S_ .f32 0x7F800000#32 (Shape.Idx.first h_S_) = (⊤ : EReal) := ofBits_top
  have hb : constantI S_ 32 0#32 (Shape.Idx.first h_S_) = 0#32 := rfl
  unfold argT
  exact (reduce_eq D (iotaInDim S4096x4096 32 1) (constant S_ .f32 0x7F800000#32) (constantI S_ 32 0#32)
    reducesTo_S4096x4096_S4096_d1 h_S_ ha hb (ix1 p)).trans h2

/-- Remainder, sign put right, of a class number by two: its low bit. -/
theorem parity : ∀ j : Fin 4096,
    (let r := IntOp.remsi ArithUnit.host (BitVec.ofNat 32 j.val) (Scalar.select (IntOp.cmpi .eq 2#32 0#32) 1#32 2#32)
    Scalar.select (IntOp.andi
        (IntOp.cmpi .ne (IntOp.cmpi .slt r 0#32) (IntOp.cmpi .slt (Scalar.select (IntOp.cmpi .eq 2#32 0#32) 1#32 2#32) 0#32))
        (IntOp.cmpi .ne r 0#32))
      (IntOp.addi r (Scalar.select (IntOp.cmpi .eq 2#32 0#32) 1#32 2#32)) r) = BitVec.ofNat 32 j.val &&& 1#32 := by
  decide +kernel

/-- A class number counted from the end where negative is itself. -/
theorem wrap : ∀ k : Fin 4096, Scalar.select (IntOp.cmpi .slt (BitVec.ofNat 32 k.val) 0#32)
    (IntOp.addi (BitVec.ofNat 32 k.val) 4096#32) (BitVec.ofNat 32 k.val) = BitVec.ofNat 32 k.val := by
  decide +kernel

/-- A class number lies in the table. -/
theorem inside : ∀ k : Fin 4096, IntOp.andi (IntOp.cmpi .sge (BitVec.ofNat 32 k.val) 0#32)
    (IntOp.cmpi .sle (BitVec.ofNat 32 k.val) 4095#32) = 1#1 := by
  decide +kernel

/-- The class table at a class is the class's low bit. -/
theorem table_at (j : Fin 4096) : tableT (ix1 j) = BitVec.ofNat 32 j.val &&& 1#32 := by
  pointwise [tableT, remainderT, divisorT]
  exact parity j

/-- The look-up at a place holding a class number. -/
theorem take_at (T I : IVec S4096 32) (p k : Fin 4096) (h : I (ix1 p) = BitVec.ofNat 32 k.val) : takeT T I (ix1 p) = T (ix1 k) := by
  have hp : positionT I (ix2 p (0 : Fin 1)) = BitVec.ofNat 32 k.val := by
    pointwise [positionT, h]
    exact wrap k
  have hi : insideT I (ix1 p) = 1#1 := by
    pointwise [insideT]
    have e : ∀ x : Fin 1, IntOp.andi (IntOp.cmpi .sge (positionT I (ix2 p x)) 0#32) (IntOp.cmpi .sle (positionT I (ix2 p x)) 4095#32)
        = 1#1 := by
      intro x
      obtain rfl : x = 0 := Subsingleton.elim _ _
      rw [hp]
      exact inside k
    rw [Finset.fold_congr fun x _ => e x]
    rfl
  have hg : Host.gather gather_S4096_S4096x1_S4096_n_0_n_n_0_1_1 T (positionT I) (ix1 p) = T (ix1 k) :=
    Routing.gather_take1 gather_S4096_S4096x1_S4096_n_0_n_n_0_1_1 rfl rfl rfl rfl T (positionT I) p k hp (by norm_num)
  show Scalar.select (insideT I (ix1 p)) _ _ = _
  rw [hi, hg]
  rfl

/-- The reference computes the label of every query. -/
theorem value (X C : FVec Ideal S4096x128 .f32) : takeT tableT (argT (F := Ideal) (distT (F := Ideal) X C)) = flat X C := by
  funext q
  idx_vars q
  obtain ⟨k, h1, h2⟩ := arg_at (distT (F := Ideal) X C) (fun j => rowDist (row X q0.val) (row C j)) q0 (dist_at X C q0)
  rw [take_at _ _ q0 ⟨k, h1.1.2⟩ h2, table_at]
  show _ = label X C q0.val
  unfold label
  rw [h1.nearest_eq]

end Cert.ReferenceIdeal.Value

end
-- ==== Proof.lean ====
/- The certificate's claim from its parts: the frames of the three programs, that the idealized kernel is the kernel,
   and that over the extended reals the kernel and the reference compute the same labels. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelRun
public import proofs.«01_k».proof.Proof.RefValue
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The reference terminates, leaves its arguments as they were and every counter at zero. -/
theorem reference_frame : Cert.quiescent_ReferenceIdeal (hReferenceIdeal := Cert.ReferenceIdeal.Gen.facts) := by
  intro m g _
  refine (θ_run _ _ _).mono (fun r h => ⟨fun c => ⟨?_, ?_⟩, sem_eq_zero_of_no_sems (by decide) r.2⟩) (Cert.ReferenceIdeal.Run.run m g)
  · exact (h c Cert.ReferenceIdeal.main_arg0).trans (Cert.ReferenceIdeal.Run.kept0 _)
  · exact (h c Cert.ReferenceIdeal.main_arg1).trans (Cert.ReferenceIdeal.Run.kept1 _)

/-- Over the extended reals the kernel and the reference, run from the same arguments, leave the same labels. -/
theorem same_labels : Cert.algebraic_KernelIdeal_ReferenceIdeal (hKernelIdeal := Cert.KernelIdeal.Gen.facts)
    (hReferenceIdeal := Cert.ReferenceIdeal.Gen.facts) := by
  pair_intro
  · run_from Cert.KernelIdeal.Gen.run_main m g
  · refine (θ_run _ _ _).mono (fun r h c => ⟨?_, ?_, ?_⟩) (Cert.ReferenceIdeal.Run.run m' g')
    · refine (h c Cert.ReferenceIdeal.main_v20).trans ((Cert.ReferenceIdeal.Run.result _).trans
        ((Cert.ReferenceIdeal.Value.value _ _).trans (Eq.trans ?_ (Cert.KernelIdeal.Out.result m c).symm)))
      exact congrArg₂ Cert.Spec.flat (hagree c).1 (hagree c).2
    · exact (h c Cert.ReferenceIdeal.main_arg0).trans (Cert.ReferenceIdeal.Run.kept0 _)
    · exact (h c Cert.ReferenceIdeal.main_arg1).trans (Cert.ReferenceIdeal.Run.kept1 _)

/-- Everything the certificate claims. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, reference_frame, trivial, same_labels⟩

end Cert.Proof

end
